-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tokens_and_padding [hPre_tokens_and_padding : Cert.Pre_tokens_and_padding.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_and_padding.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tokens_and_padding [hPre_tokens_and_padding : Cert.Pre_tokens_and_padding.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tokens_and_padding.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_tokens_and_padding [hKernelIdeal : Cert.KernelIdeal.Facts] [hPre_tokens_and_padding : Cert.Pre_tokens_and_padding.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tokens_and_padding m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_tokens_and_padding [hReferenceIdeal : Cert.ReferenceIdeal.Facts] [hPre_tokens_and_padding : Cert.Pre_tokens_and_padding.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tokens_and_padding m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_tokens_and_padding [hKernelIdeal : Cert.KernelIdeal.Facts] [hReferenceIdeal : Cert.ReferenceIdeal.Facts] [hPre_tokens_and_padding : Cert.Pre_tokens_and_padding.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tokens_and_padding m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_tokens_and_padding : Cert.Pre_tokens_and_padding.Facts),
    quiescent_Kernel (hKernel := hKernel)
    ∧ quiescent_KernelIdeal (hKernelIdeal := hKernelIdeal)
    ∧ quiescent_KernelIdeal_pre_tokens_and_padding (hKernelIdeal := hKernelIdeal) (hPre_tokens_and_padding := hPre_tokens_and_padding)
    ∧ quiescent_ReferenceIdeal (hReferenceIdeal := hReferenceIdeal)
    ∧ quiescent_ReferenceIdeal_pre_tokens_and_padding (hReferenceIdeal := hReferenceIdeal) (hPre_tokens_and_padding := hPre_tokens_and_padding)
    ∧ preserves_Kernel_KernelIdeal
    ∧ algebraic_KernelIdeal_ReferenceIdeal_pre_tokens_and_padding (hKernelIdeal := hKernelIdeal) (hReferenceIdeal := hReferenceIdeal) (hPre_tokens_and_padding := hPre_tokens_and_padding)
-- ==== Pre_tokens_and_padding.lean ====
abbrev S256x2048 : Shape := ⟨2, ![256, 2048]⟩
abbrev S5x64 : Shape := ⟨2, ![5, 64]⟩
abbrev S2048x64 : Shape := ⟨2, ![2048, 64]⟩
abbrev S_ : Shape := ⟨0, ![]⟩
abbrev S1x64 : Shape := ⟨2, ![1, 64]⟩
abbrev S64 : Shape := ⟨1, ![64]⟩

class Facts : Prop where
  bcast_S_S256x2048 : S_.BroadcastsInDim S256x2048 (![] : Fin 0 → Fin S256x2048.rank)
  reducesTo_S256x2048_S_d0_1 : S256x2048.ReducesTo [0, 1] S_
  h_S_ : 0 < S_.numel
  slices_S5x64_S1x64_0_0 : S5x64.Slices ![0, 0] S1x64
  shapeCasts_S1x64_S64 : S1x64.ShapeCasts S64
  bcast_S_S64 : S_.BroadcastsInDim S64 (![] : Fin 0 → Fin S64.rank)
  reducesTo_S64_S_d0 : S64.ReducesTo [0] S_

variable [Facts]

def fn {F : FTy → Type} [FloatOps F] (main_arg0 : IVec S256x2048 32) (main_arg1 : FVec F S5x64 .f32) (main_arg2 : FVec F S2048x64 .f32) : IVec S_ 1 :=
  let main_c : IVec S_ 32 := constantI S_ 32 0#32
  let main_v0 : IVec S256x2048 32 := broadcastInDim S256x2048 ![] bcast_S_S256x2048 main_c
  let main_v1 : IVec S256x2048 1 := cmpi .sge main_arg0 main_v0
  let main_c_0 : IVec S_ 1 := constantI S_ 1 1#1
  let main_v2 : IVec S_ 1 := (fun x v => Host.reduce IntOp.andi x v reducesTo_S256x2048_S_d0_1 h_S_) main_v1 main_c_0
  let main_c_1 : IVec S_ 32 := constantI S_ 32 5#32
  let main_v3 : IVec S256x2048 32 := broadcastInDim S256x2048 ![] bcast_S_S256x2048 main_c_1
  let main_v4 : IVec S256x2048 1 := cmpi .slt main_arg0 main_v3
  let main_c_2 : IVec S_ 1 := constantI S_ 1 1#1
  let main_v5 : IVec S_ 1 := (fun x v => Host.reduce IntOp.andi x v reducesTo_S256x2048_S_d0_1 h_S_) main_v4 main_c_2
  let main_v6 : IVec S_ 1 := andi main_v2 main_v5
  let main_v7 : FVec F S1x64 .f32 := (extractStridedSlice S1x64 ![0, 0] · slices_S5x64_S1x64_0_0) main_arg1
  let main_v8 : FVec F S64 .f32 := shapeCast S64 main_v7 shapeCasts_S1x64_S64
  let main_cst : FVec F S_ .f32 := constant S_ .f32 0x00000000#32
  let main_v9 : FVec F S64 .f32 := broadcastInDim S64 ![] bcast_S_S64 main_cst
  let main_v10 : IVec S64 1 := cmpf .oeq main_v8 main_v9
  let main_c_3 : IVec S_ 1 := constantI S_ 1 1#1
  let main_v11 : IVec S_ 1 := (fun x v => Host.reduce IntOp.andi x v reducesTo_S64_S_d0 h_S_) main_v10 main_c_3
  let main_v12 : IVec S_ 1 := andi main_v6 main_v11
  main_v12
-- ==== Kernel.lean ====
abbrev S256x2048 : Shape := ⟨2, ![256, 2048]⟩
abbrev S5x64 : Shape := ⟨2, ![5, 64]⟩
abbrev S2048x64 : Shape := ⟨2, ![2048, 64]⟩
abbrev S524288x1 : Shape := ⟨2, ![524288, 1]⟩
abbrev S524288x64 : Shape := ⟨2, ![524288, 64]⟩
abbrev S512x1 : Shape := ⟨2, ![512, 1]⟩
abbrev S512x64 : Shape := ⟨2, ![512, 64]⟩
abbrev S1x64 : Shape := ⟨2, ![1, 64]⟩
abbrev S256x2048x64 : Shape := ⟨3, ![256, 2048, 64]⟩

abbrev nBuf : Space → Nat
  | .hbm => 6
  | .vmem => 7
  | .smem => 0
  | _ => 0

abbrev bufTy : (tb : Table) → Fin (tcTables nBuf tb) → BufTy
  | .hbm, ⟨0, _⟩ => ⟨S256x2048, .i32⟩
  | .hbm, ⟨1, _⟩ => ⟨S5x64, .f32⟩
  | .hbm, ⟨2, _⟩ => ⟨S2048x64, .f32⟩
  | .hbm, ⟨3, _⟩ => ⟨S524288x1, .i32⟩
  | .hbm, ⟨4, _⟩ => ⟨S524288x64, .f32⟩
  | .hbm, ⟨5, _⟩ => ⟨S256x2048x64, .f32⟩
  | .local _ .vmem, ⟨0, _⟩ => ⟨S512x1, .i32⟩
  | .local _ .vmem, ⟨1, _⟩ => ⟨S512x1, .i32⟩
  | .local _ .vmem, ⟨2, _⟩ => ⟨S5x64, .f32⟩
  | .local _ .vmem, ⟨3, _⟩ => ⟨S512x64, .f32⟩
  | .local _ .vmem, ⟨4, _⟩ => ⟨S512x64, .f32⟩
  | .local _ .vmem, ⟨5, _⟩ => ⟨S512x64, .f32⟩
  | .local _ .vmem, ⟨6, _⟩ => ⟨S512x64, .f32⟩
  | _, _ => ⟨S256x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![256, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S5x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S256x2048 : Shape := ⟨2, ![256, 2048]⟩
abbrev S5x64 : Shape := ⟨2, ![5, 64]⟩
abbrev S2048x64 : Shape := ⟨2, ![2048, 64]⟩
abbrev S2048 : Shape := ⟨1, ![2048]⟩
abbrev S1x2048 : Shape := ⟨2, ![1, 2048]⟩
abbrev S_ : Shape := ⟨0, ![]⟩
abbrev S256x2048x1 : Shape := ⟨3, ![256, 2048, 1]⟩
abbrev S1 : Shape := ⟨1, ![1]⟩
abbrev S1x1x1 : Shape := ⟨3, ![1, 1, 1]⟩
abbrev S256x2048x64 : Shape := ⟨3, ![256, 2048, 64]⟩

abbrev nBuf : Space → Nat
  | .hbm => 53
  | .vmem => 0
  | .smem => 0
  | _ => 0

abbrev bufTy : (tb : Table) → Fin (tcTables nBuf tb) → BufTy
  | .hbm, ⟨0, _⟩ => ⟨S256x2048, .i32⟩
  | .hbm, ⟨1, _⟩ => ⟨S5x64, .f32⟩
  | .hbm, ⟨2, _⟩ => ⟨S2048x64, .f32⟩
  | .hbm, ⟨3, _⟩ => ⟨S2048, .i32⟩
  | .hbm, ⟨4, _⟩ => ⟨S1x2048, .i32⟩
  | .hbm, ⟨5, _⟩ => ⟨S256x2048, .i32⟩
  | .hbm, ⟨6, _⟩ => ⟨S_, .i32⟩
  | .hbm, ⟨7, _⟩ => ⟨S256x2048, .i32⟩
  | .hbm, ⟨8, _⟩ => ⟨S256x2048, .i1⟩
  | .hbm, ⟨9, _⟩ => ⟨S_, .i32⟩
  | .hbm, ⟨10, _⟩ => ⟨S256x2048, .i32⟩
  | .hbm, ⟨11, _⟩ => ⟨S256x2048, .i32⟩
  | .hbm, ⟨12, _⟩ => ⟨S256x2048, .i32⟩
  | .hbm, ⟨13, _⟩ => ⟨S256x2048x1, .i32⟩
  | .hbm, ⟨14, _⟩ => ⟨S1, .i32⟩
  | .hbm, ⟨15, _⟩ => ⟨S_, .i32⟩
  | .hbm, ⟨16, _⟩ => ⟨S256x2048x1, .i32⟩
  | .hbm, ⟨17, _⟩ => ⟨S256x2048x1, .i1⟩
  | .hbm, ⟨18, _⟩ => ⟨S1x1x1, .i32⟩
  | .hbm, ⟨19, _⟩ => ⟨S256x2048x1, .i32⟩
  | .hbm, ⟨20, _⟩ => ⟨S256x2048x1, .i1⟩
  | .hbm, ⟨21, _⟩ => ⟨S256x2048x1, .i1⟩
  | .hbm, ⟨22, _⟩ => ⟨S_, .i1⟩
  | .hbm, ⟨23, _⟩ => ⟨S256x2048, .i1⟩
  | .hbm, ⟨24, _⟩ => ⟨S256x2048x64, .f32⟩
  | .hbm, ⟨25, _⟩ => ⟨S256x2048x64, .i1⟩
  | .hbm, ⟨26, _⟩ => ⟨S_, .f32⟩
  | .hbm, ⟨27, _⟩ => ⟨S256x2048x64, .f32⟩
  | .hbm, ⟨28, _⟩ => ⟨S256x2048x64, .f32⟩
  | .hbm, ⟨29, _⟩ => ⟨S_, .i32⟩
  | .hbm, ⟨30, _⟩ => ⟨S256x2048, .i32⟩
  | .hbm, ⟨31, _⟩ => ⟨S256x2048, .i1⟩
  | .hbm, ⟨32, _⟩ => ⟨S_, .i32⟩
  | .hbm, ⟨33, _⟩ => ⟨S256x2048, .i32⟩
  | .hbm, ⟨34, _⟩ => ⟨S256x2048, .i32⟩
  | .hbm, ⟨35, _⟩ => ⟨S256x2048, .i32⟩
  | .hbm, ⟨36, _⟩ => ⟨S256x2048x1, .i32⟩
  | .hbm, ⟨37, _⟩ => ⟨S1, .i32⟩
  | .hbm, ⟨38, _⟩ => ⟨S_, .i32⟩
  | .hbm, ⟨39, _⟩ => ⟨S256x2048x1, .i32⟩
  | .hbm, ⟨40, _⟩ => ⟨S256x2048x1, .i1⟩
  | .hbm, ⟨41, _⟩ => ⟨S1x1x1, .i32⟩
  | .hbm, ⟨42, _⟩ => ⟨S256x2048x1, .i32⟩
  | .hbm, ⟨43, _⟩ => ⟨S256x2048x1, .i1⟩
  | .hbm, ⟨44, _⟩ => ⟨S256x2048x1, .i1⟩
  | .hbm, ⟨45, _⟩ => ⟨S_, .i1⟩
  | .hbm, ⟨46, _⟩ => ⟨S256x2048, .i1⟩
  | .hbm, ⟨47, _⟩ => ⟨S256x2048x64, .f32⟩
  | .hbm, ⟨48, _⟩ => ⟨S256x2048x64, .i1⟩
  | .hbm, ⟨49, _⟩ => ⟨S_, .f32⟩
  | .hbm, ⟨50, _⟩ => ⟨S256x2048x64, .f32⟩
  | .hbm, ⟨51, _⟩ => ⟨S256x2048x64, .f32⟩
  | .hbm, ⟨52, _⟩ => ⟨S256x2048x64, .f32⟩
  | _, _ => ⟨S256x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v3 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v4 : Ref sig .tc := ⟨.hbm, 51, rfl⟩
abbrev main_v5 : Ref sig .tc := ⟨.hbm, 52, rfl⟩

abbrev nD : Nat := 1
abbrev τ : Topo := Topo.v7x

variable {F : FTy → Type} [FloatOps F]
-- ==== Proof.Rows.lean ====
/-
  The arithmetic of one element: the kernel adds, onto an entry of the position table, one of the rows 1 to 4
  of the token table, selected by comparing the token's index with 1, 2, 3 and 4. For an index below 5, and with row 0
  at zero, that is the entry of the row that the index names plus the position's entry.
-/
module

public import Idealize.ShloMosaic.PureOps.Ideal
public import Idealize.ShloMosaic.PureOps.Ideal.Laws
public import Idealize.ShloMosaic.Lib.Pointwise

@[expose] public section

noncomputable section

namespace Cert.Embed

open Idealize.ShloMosaic

/-- `x` where the index `w` is `t`, and zero elsewhere. -/
def pick (w t : BitVec 32) (x : EReal) : EReal := Scalar.select (IntOp.cmpi .eq w t) x 0

/-- What the kernel leaves in one element: `p` and, one after the other, the four selected entries. -/
def chain (w : BitVec 32) (p : EReal) (row : Fin 5 → EReal) : EReal :=
  p + pick w 1#32 (row 1) + pick w 2#32 (row 2) + pick w 3#32 (row 3) + pick w 4#32 (row 4)

theorem pick_self (w : BitVec 32) (x : EReal) : pick w w x = x := by
  simp [pick, IntOp.cmpi, Scalar.select]

theorem pick_ne {w t : BitVec 32} (h : w ≠ t) (x : EReal) : pick w t x = 0 := by
  have hb : (w == t) = false := by simpa using h
  simp [pick, IntOp.cmpi, Scalar.select, hb]

/-- For an index below 5, with row 0 at zero, the four selections add up to the named row's entry. -/
theorem chain_eq (w : BitVec 32) (p : EReal) (row : Fin 5 → EReal) (k : Fin 5) (hw : w = BitVec.ofNat 32 k.val)
    (h0 : row 0 = 0) : chain w p row = row k + p := by
  subst hw
  unfold chain
  fin_cases k
  · simp [pick_ne, h0]
  · simp [pick_ne, pick_self, add_comm]
  · simp [pick_ne, pick_self, add_comm]
  · simp [pick_ne, pick_self, add_comm]
  · simp [pick_ne, pick_self, add_comm]

end Cert.Embed

end
-- ==== Proof.Block.lean ====
/-
  What one grid point leaves in its block of the result, element by element, over the extended reals.
-/
module

public import proofs.«01_k».proof.Proof.Rows
public import proofs.«01_k».proof.Proof.Gen.KernelIdeal.Frame
public import Idealize.ShloMosaic.Lib.Pipeline.Value
public import Idealize.ShloMosaic.Lib.Pointwise

@[expose] public section

noncomputable section

namespace Cert.KernelIdeal.Block

open Cert.KernelIdeal Cert.KernelIdeal.Gen Cert.Embed
open Idealize.ShloMosaic

theorem zeros2 : (![0, 0] : Fin 2 → Nat) = fun _ => 0 := funext fun a => by fin_cases a <;> rfl

/-- Element `(r, e)` of the block that the body leaves: the selections over the token's index in row `r` of the index
    block, onto entry `(r, e)` of the position block. -/
theorem out_apply (x0 : Vec Ideal S512x1 .i32) (x1 : Vec Ideal S5x64 .f32) (x2 : Vec Ideal S512x64 .f32)
    (r : Fin 512) (e : Fin 64) :
    out0_3 x0 x1 x2 (ix2 r e) = chain (x0 (ix2 r 0)) (x2 (ix2 r e)) (fun k => x1 (ix2 k e)) := by
  unfold out0_3
  rw [View.canon_unit_zero zeros2, View.ld_unit_zero (S := S512x1) zeros2, View.ld_unit_zero (S := S512x64) zeros2]
  unfold_payloads
  pointwise
  rfl

end Cert.KernelIdeal.Block

end
-- ==== Proof.Geometry.lean ====
/-
  Where the blocks of a grid point lie in their arrays: point `t` has block `t` of the flattened indices and of the
  result, block `t % 4` of the position table, and the whole token table; the result's blocks fill it.
-/
module

public import proofs.«01_k».proof.Proof.Gen.KernelIdeal.Frame
public import Idealize.ShloMosaic.Lib.Pipeline.Value
public import Idealize.ShloMosaic.Lib.Pointwise

@[expose] public section

noncomputable section

namespace Cert.KernelIdeal.Geometry

open Cert.KernelIdeal Cert.KernelIdeal.Gen
open Idealize.ShloMosaic Idealize.ShloMosaic.TcCoe Idealize.SL.Sem
open Idealize.ShloMosaic.Pipeline (Window)

theorem lt_points (t : Fin grid0.N) : t.val < 1024 := lt_of_lt_of_eq t.isLt N_0

/-- The first coordinate of point `t`. -/
theorem coord0 (t : Fin grid0.N) : (grid0.coords t 0).val = t.val / 4 := by
  have h := Pipeline.Grid.coords_val t 0 (S := 4) (B := 256) (by decide) rfl
  have := lt_points t
  omega

/-- The second coordinate of point `t`. -/
theorem coord1 (t : Fin grid0.N) : (grid0.coords t 1).val = t.val % 4 := by
  have h := Pipeline.Grid.coords_val t 1 (S := 1) (B := 4) (by decide) rfl
  omega

/-- The word `i * 4 + j` that two of the index maps compute is the point's number. -/
theorem word_eq (t : Fin grid0.N) :
    (Scalar.addi (Scalar.muli (BitVec.ofNat 32 (grid0.coords t 0).val) 4#32)
      (BitVec.ofNat 32 (grid0.coords t 1).val)).toNat = t.val := by
  rw [coord0, coord1]
  have := lt_points t
  simp only [Scalar.addi, Scalar.muli, IntOp.addi, IntOp.muli, BitVec.toNat_add, BitVec.toNat_mul, BitVec.toNat_ofNat]
  omega

theorem index0_0 (t : Fin grid0.N) : win0_0.index t 0 = t.val := word_eq t
theorem index0_1 (t : Fin grid0.N) : win0_0.index t 1 = 0 := rfl
theorem index1_0 (t : Fin grid0.N) : win0_1.index t 0 = 0 := rfl
theorem index1_1 (t : Fin grid0.N) : win0_1.index t 1 = 0 := rfl
theorem index2_0 (t : Fin grid0.N) : win0_2.index t 0 = t.val % 4 := by
  show (BitVec.ofNat 32 (grid0.coords t 1).val).toNat = _
  rw [coord1, BitVec.toNat_ofNat]
  omega
theorem index2_1 (t : Fin grid0.N) : win0_2.index t 1 = 0 := rfl
theorem index3_0 (t : Fin grid0.N) : win0_3.index t 0 = t.val := word_eq t
theorem index3_1 (t : Fin grid0.N) : win0_3.index t 1 = 0 := rfl

/-- Element `(r, 0)` of the index block of point `t` is element `(512 t + r, 0)` of the flattened indices. -/
theorem emb0 (t : Fin grid0.N) (r : Fin 512) (R : Fin 524288) (hR : R.val = t.val * 512 + r.val) :
    (win0_0.rect t).emb (ix2 r (0 : Fin 1)) = (ix2 R 0 : S524288x1.Idx) := by
  refine Shape.idx_ext₂ ?_ ?_
  · refine (Window.rect_emb_val win0_0 t _ 0).trans ?_
    rw [index0_0]; exact hR.symm
  · refine (Window.rect_emb_val win0_0 t _ 1).trans ?_
    rw [index0_1]; rfl

/-- The token table's block is the table. -/
theorem emb1 (t : Fin grid0.N) (k : Fin 5) (e : Fin 64) : (win0_1.rect t).emb (ix2 k e) = (ix2 k e : S5x64.Idx) := by
  refine Shape.idx_ext₂ ?_ ?_
  · exact Window.rect_emb_val_of_index_zero win0_1 t 0 (index1_0 t) _
  · exact Window.rect_emb_val_of_index_zero win0_1 t 1 (index1_1 t) _

/-- Element `(r, e)` of the position block of point `t` is element `(512 (t % 4) + r, e)` of the table. -/
theorem emb2 (t : Fin grid0.N) (r : Fin 512) (e : Fin 64) (l : Fin 2048) (hl : l.val = t.val % 4 * 512 + r.val) :
    (win0_2.rect t).emb (ix2 r e) = (ix2 l e : S2048x64.Idx) := by
  refine Shape.idx_ext₂ ?_ ?_
  · refine (Window.rect_emb_val win0_2 t _ 0).trans ?_
    rw [index2_0]; exact hl.symm
  · exact Window.rect_emb_val_of_index_zero win0_2 t 1 (index2_1 t) _

/-- Element `(r, e)` of the result's block at point `t` is element `(512 t + r, e)` of the result. -/
theorem emb3 (t : Fin grid0.N) (r : Fin 512) (e : Fin 64) (R : Fin 524288) (hR : R.val = t.val * 512 + r.val) :
    (win0_3.rect t).emb (ix2 r e) = (ix2 R e : S524288x64.Idx) := by
  refine Shape.idx_ext₂ ?_ ?_
  · refine (Window.rect_emb_val win0_3 t _ 0).trans ?_
    rw [index3_0]; exact hR.symm
  · exact Window.rect_emb_val_of_index_zero win0_3 t 1 (index3_1 t) _

/-- Every element of the result lies in the block of some point, which writes it back. -/
theorem cover (i : S524288x64.Idx) :
    ∃ t : Fin cfg0.N, (cfg0.win 3).flush t = true ∧ i ∈ ((cfg0.win 3).blk t).view.set := by
  have h0 : (i 0).val < 524288 := (i 0).isLt
  have ht : (i 0).val / 512 < cfg0.N := lt_of_lt_of_eq (b := 1024) (by omega) N_0.symm
  refine ⟨⟨(i 0).val / 512, ht⟩, flush0_3 _, ?_⟩
  show i ∈ ((View.whole main_v1).slice (win0_3.rect ⟨(i 0).val / 512, ht⟩)).set
  rw [View.set_slice_whole, Rect.mem_set_unit]
  intro a
  match a with
  | ⟨0, _⟩ =>
    show win0_3.index ⟨(i 0).val / 512, ht⟩ 0 * 512 ≤ (i 0).val
      ∧ (i 0).val < win0_3.index ⟨(i 0).val / 512, ht⟩ 0 * 512 + 512
    rw [index3_0]
    dsimp only
    omega
  | ⟨1, _⟩ =>
    show 0 * 64 ≤ (i 1).val ∧ (i 1).val < 0 * 64 + 64
    have h1 : (i 1).val < 64 := (i 1).isLt
    omega

end Cert.KernelIdeal.Geometry

end
-- ==== Proof.KernelValue.lean ====
/-
  What the kernel leaves in its result, over the extended reals, at every element; and the run that leaves it there.
-/
module

public import proofs.«01_k».proof.Proof.Block
public import proofs.«01_k».proof.Proof.Geometry

@[expose] public section

noncomputable section

namespace Cert.KernelIdeal.Whole

open Cert.KernelIdeal Cert.KernelIdeal.Gen Cert.KernelIdeal.Geometry Cert.KernelIdeal.Block Cert.Embed
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Device `c`'s token indices. -/
abbrev idx (c : Dev nD) : IVec S256x2048 32 := m ((c : Thread nD τ).loc main_arg0)
/-- Device `c`'s token table. -/
abbrev tok (c : Dev nD) : FVec Ideal S5x64 .f32 := m ((c : Thread nD τ).loc main_arg1)
/-- Device `c`'s position table. -/
abbrev pos (c : Dev nD) : FVec Ideal S2048x64 .f32 := m ((c : Thread nD τ).loc main_arg2)

/-- The row of the batch that row `R` of the flattened result belongs to. -/
def batchOf (R : Fin 524288) : Fin 256 := ⟨R.val / 2048, by omega⟩
/-- The position in its row of row `R` of the flattened result. -/
def placeOf (R : Fin 524288) : Fin 2048 := ⟨R.val % 2048, by omega⟩

/-- The flattened result. -/
def flat (c : Dev nD) : FVec Ideal S524288x64 .f32 := fun i =>
  chain (idx m c (ix2 (batchOf (i 0)) (placeOf (i 0)))) (pos m c (ix2 (placeOf (i 0)) (i 1)))
    (fun k => tok m c (ix2 k (i 1)))

/-- The result: at `(b, l, e)`, the selections over the index at `(b, l)`, onto entry `(l, e)` of the position table. -/
def result (c : Dev nD) : FVec Ideal S256x2048x64 .f32 := fun i =>
  chain (idx m c (ix2 (i 0) (i 1))) (pos m c (ix2 (i 1) (i 2))) (fun k => tok m c (ix2 k (i 2)))

/-- The region finds the indices flattened. -/
theorem V_main_v0 (c : Dev nD) :
    V m c main_v0 = shapeCast S524288x1 (idx m c) shapeCasts_S256x2048_S524288x1 := by
  show StableHlo.after (List.flatten [hostOps0]) (fun b => m (c, b)) (Proc.devRef .tc main_v0) = _
  simp only [hostOps0, List.flatten_cons, List.flatten_nil, List.append_nil]
  after_results
  rfl

/-- Row `R` of the flattened indices is the index at `(R / 2048, R % 2048)`. -/
theorem V_main_v0_apply (c : Dev nD) (R : Fin 524288) :
    V m c main_v0 (ix2 R 0 : S524288x1.Idx) = idx m c (ix2 (batchOf R) (placeOf R)) := by
  rw [V_main_v0]
  refine shapeCast_apply _ _ _ _ ?_
  rw [Shape.rowMajor_val_two, Shape.rowMajor_val_two]
  show R.val / 2048 * 2048 + R.val % 2048 = R.val * 1 + 0
  omega

theorem read0 (c : Dev nD) (t : Fin cfg0.N) (r : Fin 512) (R : Fin 524288) (hR : R.val = t.val * 512 + r.val) :
    iblk m c 0 t (ix2 r (0 : Fin 1)) = idx m c (ix2 (batchOf R) (placeOf R)) := by
  show V m c main_v0 ((win0_0.rect t).emb (ix2 r (0 : Fin 1))) = _
  rw [emb0 t r R hR]
  exact V_main_v0_apply m c R

theorem read1 (c : Dev nD) (t : Fin cfg0.N) (k : Fin 5) (e : Fin 64) :
    iblk m c 1 t (ix2 k e) = tok m c (ix2 k e) := by
  show V m c main_arg1 ((win0_1.rect t).emb (ix2 k e)) = _
  rw [emb1, V_main_arg1]

theorem read2 (c : Dev nD) (t : Fin cfg0.N) (r : Fin 512) (e : Fin 64) (l : Fin 2048)
    (hl : l.val = t.val % 4 * 512 + r.val) : iblk m c 2 t (ix2 r e) = pos m c (ix2 l e) := by
  show V m c main_arg2 ((win0_2.rect t).emb (ix2 r e)) = _
  rw [emb2 t r e l hl, V_main_arg2]

/-- What point `t` writes back is its block of the flattened result. -/
theorem flushed_eq (c : Dev nD) (t : Fin cfg0.N) :
    (dats m 0 c).flushed 3 t = (win0_3.blk t).view.read (Elt Ideal) (flat m c) := by
  show (cfg0.win 3).cut (grid0.coords t) ((dats m 0 c).after 3 t) = _
  rw [after0_3]
  have hblk : ∀ (r : Fin 512) (e : Fin 64),
      out0_3 (iblk m c 0 t) (iblk m c 1 t) (iblk m c 2 t) (ix2 r e) = flat m c ((win0_3.rect t).emb (ix2 r e)) := by
    intro r e
    have ht := lt_points t
    have hr := r.isLt
    rw [emb3 t r e ⟨t.val * 512 + r.val, by omega⟩ rfl]
    refine (out_apply _ _ _ r e).trans ?_
    rw [read0 m c t r ⟨t.val * 512 + r.val, by omega⟩ rfl,
      read2 m c t r e (placeOf ⟨t.val * 512 + r.val, by omega⟩)
        (by show (t.val * 512 + r.val) % 2048 = _; omega)]
    simp only [read1]
    rfl
  funext y
  have hy : y = ix2 (y 0 : Fin 512) (y 1 : Fin 64) := eq_ix2 y
  rw [hy]
  exact hblk (y 0) (y 1)

/-- So the flattened result's array ends holding it. -/
theorem final_flat (c : Dev nD) : (dats m 0 c).arrAt 3 cfg0.N = flat m c :=
  (dats m 0 c).arrAt_eq_of_cover 3 (flat m c) (fun t _ => flushed_eq m c t) cover

/-- The result is the flattened result in the shape of the batch. -/
theorem result_eq (c : Dev nD) :
    shapeCast S256x2048x64 (flat m c) shapeCasts_S524288x64_S256x2048x64 = result m c := by
  funext i
  have h0 : (i 0).val < 256 := (i 0).isLt
  have h1 : (i 1).val < 2048 := (i 1).isLt
  have hR : (i 0).val * 2048 + (i 1).val < 524288 := by omega
  refine (shapeCast_apply _ _ i (ix2 (⟨(i 0).val * 2048 + (i 1).val, hR⟩ : Fin 524288) (i 2 : Fin 64)) ?_).trans ?_
  · rw [Shape.rowMajor_val_two, Shape.rowMajor_val_three]
    rfl
  · have hb : batchOf ⟨(i 0).val * 2048 + (i 1).val, hR⟩ = i 0 :=
      Fin.ext (by show ((i 0).val * 2048 + (i 1).val) / 2048 = (i 0).val; omega)
    have hp : placeOf ⟨(i 0).val * 2048 + (i 1).val, hR⟩ = i 1 :=
      Fin.ext (by show ((i 0).val * 2048 + (i 1).val) % 2048 = (i 1).val; omega)
    show chain (idx m c (ix2 (batchOf ⟨(i 0).val * 2048 + (i 1).val, hR⟩)
        (placeOf ⟨(i 0).val * 2048 + (i 1).val, hR⟩)))
      (pos m c (ix2 (placeOf ⟨(i 0).val * 2048 + (i 1).val, hR⟩) (i 2))) (fun k => tok m c (ix2 k (i 2))) = _
    rw [hb, hp]
    rfl

/-- The line after the region leaves the result's array at the result. -/
theorem W_main_v2 (c : Dev nD) :
    Pipeline.afterTail₀ cfgs (dats m) 0 (V0 m) [hostOps1] c main_v2 = result m c := by
  unfold Pipeline.afterTail₀
  simp only [hostOps1, List.flatten_cons, List.flatten_nil, List.append_nil]
  after_results
  rw [← result_eq]
  have h := Pipeline.withArrays_arr spec0 launch0.win.arr_inj c (V0 m c) (fun w => (dats m 0 c).arrAt w cfg0.N) 3
  refine congrArg (fun x => shapeCast S256x2048x64 x shapeCasts_S524288x64_S256x2048x64) (h.trans (final_flat m c))

/-- The run, read: the result's array at the result, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
      ⟨((h c).2 main_v2 (Pipeline.mem_restRefs_of main_v2 (by decide) (by decide))).trans (W_main_v2 m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Whole

end
-- ==== Proof.Take.lean ====
/-
  A host gather of whole rows: from a table of rows of 64 entries, with one row index per position of the batch, the
  row that the index names.
-/
module

public import Idealize.ShloMosaic.Lib.Pointwise
public import Idealize.ShloMosaic.Lib.WordCmp

@[expose] public section

noncomputable section

namespace Cert.Embed

open Idealize.ShloMosaic Idealize.ShloMosaic.WordCmp

/-- The gather's dimension numbers, for a table of `N` rows: the result's last axis runs along a row, and the other
    two axes are those of the indices. -/
def rowDims (N : Nat)
    (wf : GatherDims.WF ⟨2, ![N, 64]⟩ ⟨3, ![256, 2048, 1]⟩ ⟨3, ![256, 2048, 64]⟩ [2] [0] [] [0] [] 2 ![1, 64]) :
    GatherDims ⟨2, ![N, 64]⟩ ⟨3, ![256, 2048, 1]⟩ ⟨3, ![256, 2048, 64]⟩ where
  offsetDims := [2]
  collapsedSliceDims := [0]
  operandBatchingDims := []
  startIndicesBatchingDims := []
  startIndexMap := [0]
  indexVectorDim := 2
  sliceSizes := ![1, 64]
  wf := wf

/-- Where the index word at `(b, l)` is the number of a row, the gather's element `(b, l, e)` is entry `e` of it. -/
theorem gather_rows {α : Type} (N : Nat) (hN : N < 2 ^ 31)
    (wf : GatherDims.WF ⟨2, ![N, 64]⟩ ⟨3, ![256, 2048, 1]⟩ ⟨3, ![256, 2048, 64]⟩ [2] [0] [] [0] [] 2 ![1, 64])
    (x : (⟨2, ![N, 64]⟩ : Shape).Idx → α) (i : IVec ⟨3, ![256, 2048, 1]⟩ 32)
    (b : Fin 256) (l : Fin 2048) (e : Fin 64) (k : Fin N) (hk : i (ix3 b l 0) = BitVec.ofNat 32 k.val) :
    Host.gather (rowDims N wf) x i (ix3 b l e) = x (ix2 k e) := by
  unfold Host.gather
  congr 1
  have hkN := k.isLt
  funext a
  refine Fin.ext ?_
  show (rowDims N wf).start (ix3 b l e) i a + (rowDims N wf).batchCoord (ix3 b l e) a
    + (rowDims N wf).offCoord (ix3 b l e) a = _
  rw [GatherDims.batchCoord_eq_zero _ _ _ List.not_mem_nil, Nat.add_zero]
  match a with
  | ⟨0, _⟩ =>
    have hs : (0 : Fin 2) ∈ (rowDims N wf).startIndexMap := List.mem_singleton.mpr rfl
    have h0 : (rowDims N wf).offCoord (ix3 b l e) (0 : Fin 2) = 0 :=
      GatherDims.offCoord_eq_zero _ _ _ fun h => ((GatherDims.mem_sKept _ _).mp h).1 (List.mem_singleton.mpr rfl)
    have hsi : (rowDims N wf).siIdx (ix3 b l e) ⟨List.idxOf (0 : Fin 2) (rowDims N wf).startIndexMap,
        List.idxOf_lt_length_iff.2 hs⟩ = ix3 b l 0 := by
      funext d
      refine Fin.ext ?_
      match d with
      | ⟨0, _⟩ => rfl
      | ⟨1, _⟩ => rfl
      | ⟨2, _⟩ => rfl
    have hst : (rowDims N wf).start (ix3 b l e) i (0 : Fin 2) = min (i (ix3 b l 0)).toInt.toNat (N - 1) := by
      unfold GatherDims.start
      rw [dif_pos hs, hsi]
      rfl
    show (rowDims N wf).start (ix3 b l e) i (0 : Fin 2) + (rowDims N wf).offCoord (ix3 b l e) (0 : Fin 2) = k.val
    rw [h0, hst, hk, toInt_ofNat_of_lt (w := 32) (by omega)]
    omega
  | ⟨1, _⟩ =>
    have hs : (1 : Fin 2) ∉ (rowDims N wf).startIndexMap := by
      show (1 : Fin 2) ∉ [(0 : Fin 2)]
      decide
    have h1 : (1 : Fin 2) ∈ (rowDims N wf).sKept := by
      rw [GatherDims.mem_sKept]
      exact ⟨by show (1 : Fin 2) ∉ [(0 : Fin 2)]; decide, List.not_mem_nil⟩
    have hst : (rowDims N wf).start (ix3 b l e) i (1 : Fin 2) = 0 := by
      unfold GatherDims.start
      rw [dif_neg hs]
    have hoff : (rowDims N wf).offCoord (ix3 b l e) (1 : Fin 2) = e.val := by
      unfold GatherDims.offCoord
      rw [dif_pos h1]
      rfl
    show (rowDims N wf).start (ix3 b l e) i (1 : Fin 2) + (rowDims N wf).offCoord (ix3 b l e) (1 : Fin 2) = e.val
    rw [hst, hoff, Nat.zero_add]

end Cert.Embed

end
-- ==== Proof.RefValue.lean ====
/-
  What the reference computes, over the extended reals: where every token index names a row of the token table, the
  element at `(b, l, e)` is entry `e` of the row that the index at `(b, l)` names plus entry `(l, e)` of the position table.
-/
module

public import proofs.«01_k».proof.Proof.Take
public import proofs.«01_k».proof.Proof.Gen.ReferenceIdeal.Run
public import Idealize.ShloMosaic.Lib.ReduceAll
public import Idealize.ShloMosaic.Lib.Pipeline.Value

@[expose] public section

noncomputable section

namespace Cert.ReferenceIdeal.Taken

open Cert.ReferenceIdeal Cert.ReferenceIdeal.Gen Cert.Embed
open Idealize.ShloMosaic Idealize.ShloMosaic.TcCoe Idealize.ShloMosaic.WordCmp Idealize.SL.Sem

/-- The indices as the look-up uses them: a negative one counted from the table's end, then a last axis of extent one. -/
def wrapped (n : BitVec 32) (i : IVec S256x2048 32) : IVec S256x2048x1 32 :=
  broadcastInDim S256x2048x1 ![0, 1] bcast_S256x2048_S256x2048x1_0_1
    (select (cmpi .slt i (broadcastInDim S256x2048 ![] bcast_S_S256x2048 (constantI S_ 32 0#32)))
      (addi i (broadcastInDim S256x2048 ![] bcast_S_S256x2048 (constantI S_ 32 n))) i)

/-- Where an index lies in the table. -/
def inside (n last : BitVec 32) (i : IVec S256x2048 32) : IVec S256x2048x1 1 :=
  andi (cmpi .sge (wrapped n i) (broadcastInDim S256x2048x1 ![] bcast_S_S256x2048x1 (constantI S_ 32 0#32)))
    (cmpi .sle (wrapped n i) (broadcastInDim S256x2048x1 ![0, 1, 2] bcast_S1x1x1_S256x2048x1_0_1_2
      (broadcastInDim S1x1x1 ![2] bcast_S1_S1x1x1_2 (constantI S1 32 last))))

/-- The look-up of rows: the gathered rows where the index lies in the table, and the constant elsewhere. -/
def taken (N : Nat) (d : GatherDims ⟨2, ![N, 64]⟩ S256x2048x1 S256x2048x64) (n last : BitVec 32)
    (x : FVec Ideal ⟨2, ![N, 64]⟩ .f32) (i : IVec S256x2048 32) : FVec Ideal S256x2048x64 .f32 :=
  select (broadcastInDim S256x2048x64 ![0, 1] bcast_S256x2048_S256x2048x64_0_1
      (Host.reduce IntOp.andi (inside n last i) (constantI S_ 1 1#1) reducesTo_S256x2048x1_S256x2048_d2 h_S_))
    (Host.gather d x (wrapped n i))
    (broadcastInDim S256x2048x64 ![] bcast_S_S256x2048x64 (constant S_ .f32 0x7FC00000#32))

/-- An index that is not negative is used as it is. -/
theorem wrapped_apply (n : BitVec 32) (i : IVec S256x2048 32) (b : Fin 256) (l : Fin 2048) (u : Fin 1) (k : Nat)
    (hk : k < 2 ^ 31) (hi : i (ix2 b l) = BitVec.ofNat 32 k) : wrapped n i (ix3 b l u) = BitVec.ofNat 32 k := by
  unfold wrapped
  pointwise
  rw [hi]
  have hneg : IntOp.cmpi .slt (BitVec.ofNat 32 k) 0#32 = 0#1 := by
    rw [cmpi_slt_ofNat (w := 32) (a := k) (b := 0) hk (by decide)]
    simp
  simp [hneg, Scalar.select]

/-- With every index the number of a row, the look-up is the row. -/
theorem taken_apply (N : Nat) (hN : N < 2 ^ 31)
    (wf : GatherDims.WF ⟨2, ![N, 64]⟩ S256x2048x1 S256x2048x64 [2] [0] [] [0] [] 2 ![1, 64])
    (n : BitVec 32) (x : FVec Ideal ⟨2, ![N, 64]⟩ .f32) (i : IVec S256x2048 32)
    (row : Fin 256 → Fin 2048 → Fin N) (hi : ∀ b l, i (ix2 b l) = BitVec.ofNat 32 (row b l).val)
    (b : Fin 256) (l : Fin 2048) (e : Fin 64) :
    taken N (rowDims N wf) n (BitVec.ofNat 32 (N - 1)) x i (ix3 b l e) = x (ix2 (row b l) e) := by
  have hw : ∀ b l u, wrapped n i (ix3 b l u) = BitVec.ofNat 32 (row b l).val := fun b l u =>
    wrapped_apply n i b l u _ (by have := (row b l).isLt; omega) (hi b l)
  have hin' : ∀ b l u, inside n (BitVec.ofNat 32 (N - 1)) i (ix3 b l u) = 1#1 := by
    intro b l u
    have hr := (row b l).isLt
    unfold inside
    pointwise
    rw [hw]
    refine IntOp.andi_eq_one.mpr ⟨?_, ?_⟩
    · rw [cmpi_sge_ofNat (w := 32) (b := 0) (by omega) (by decide)]
      simp
    · rw [cmpi_sle_ofNat (w := 32) (by omega) (by omega)]
      rw [decide_eq_true (by omega)]
      rfl
  have hin : ∀ j, inside n (BitVec.ofNat 32 (N - 1)) i j = 1#1 := fun j => by
    rw [eq_ix3 j]
    exact hin' _ _ _
  have hmask : ∀ j, Host.reduce IntOp.andi (inside n (BitVec.ofNat 32 (N - 1)) i) (constantI S_ 1 1#1)
      reducesTo_S256x2048x1_S256x2048_d2 h_S_ j = 1#1 := fun j => Host.reduce_andi_one _ _ _ _ j rfl hin
  unfold taken
  show Scalar.select (broadcastInDim S256x2048x64 ![0, 1] bcast_S256x2048_S256x2048x64_0_1
    (Host.reduce IntOp.andi (inside n (BitVec.ofNat 32 (N - 1)) i) (constantI S_ 1 1#1)
      reducesTo_S256x2048x1_S256x2048_d2 h_S_) (ix3 b l e)) (Host.gather (rowDims N wf) x (wrapped n i) (ix3 b l e)) _ = _
  have hm : broadcastInDim S256x2048x64 ![0, 1] bcast_S256x2048_S256x2048x64_0_1
    (Host.reduce IntOp.andi (inside n (BitVec.ofNat 32 (N - 1)) i) (constantI S_ 1 1#1)
      reducesTo_S256x2048x1_S256x2048_d2 h_S_) (ix3 b l e) = 1#1 := hmask _
  rw [hm, gather_rows N hN wf x (wrapped n i) b l e (row b l) (hw b l 0)]
  rfl

/-- The positions: at `(b, l)`, the number `l`. -/
def places : IVec S256x2048 32 :=
  broadcastInDim S256x2048 ![0, 1] bcast_S1x2048_S256x2048_0_1
    (broadcastInDim S1x2048 ![1] bcast_S2048_S1x2048_1 (iotaInDim S2048 32 0))

theorem places_apply (b : Fin 256) (l : Fin 2048) : places (ix2 b l) = BitVec.ofNat 32 l.val := by
  unfold places
  pointwise

variable (m : (ℓ : Loc nD τ sig) → Buf (Elt Ideal) ℓ)

/-- Device `c`'s token indices. -/
abbrev idx (c : Dev nD) : IVec S256x2048 32 := m ((c.tc : Thread nD τ).loc main_arg0)
/-- Device `c`'s token table. -/
abbrev tok (c : Dev nD) : FVec Ideal S5x64 .f32 := m ((c.tc : Thread nD τ).loc main_arg1)
/-- Device `c`'s position table. -/
abbrev pos (c : Dev nD) : FVec Ideal S2048x64 .f32 := m ((c.tc : Thread nD τ).loc main_arg2)
/-- The reference's result. -/
abbrev result (c : Dev nD) : FVec Ideal S256x2048x64 .f32 := Cert.ReferenceIdeal.Value.res_out0 m c

set_option maxRecDepth 8192 in
/-- The reference's result is the sum of two look-ups of rows. -/
theorem res_eq (c : Dev nD) :
    result m c
      = addf (taken 5 (rowDims 5 gather_S5x64_S256x2048x1_S256x2048x64_2_0_n_n_0_2_164_wf) 5#32 4#32 (tok m c) (idx m c))
          (taken 2048 (rowDims 2048 gather_S2048x64_S256x2048x1_S256x2048x64_2_0_n_n_0_2_164_wf) 2048#32 2047#32
            (pos m c) places) := rfl

/-- The reference's element at `(b, l, e)`, for token indices that all name rows of the token table. -/
theorem res_apply (c : Dev nD) (row : Fin 256 → Fin 2048 → Fin 5)
    (hrow : ∀ b l, idx m c (ix2 b l) = BitVec.ofNat 32 (row b l).val) (b : Fin 256) (l : Fin 2048) (e : Fin 64) :
    result m c (ix3 b l e) = tok m c (ix2 (row b l) e) + pos m c (ix2 l e) := by
  have h5 := taken_apply 5 (by decide) gather_S5x64_S256x2048x1_S256x2048x64_2_0_n_n_0_2_164_wf 5#32 (tok m c)
    (idx m c) row hrow b l e
  have hp := taken_apply 2048 (by decide) gather_S2048x64_S256x2048x1_S256x2048x64_2_0_n_n_0_2_164_wf 2048#32 (pos m c)
    places (fun _ l => l) places_apply b l e
  rw [res_eq, ← h5, ← hp]
  rfl

end Cert.ReferenceIdeal.Taken

end
-- ==== Proof.Tokens.lean ====
/-
  What the precondition says: every token index names one of the five rows of the token table, and row 0 is zero.
-/
module

public import proofs.«01_k».proof.Proof.Gen.Pre_tokens_and_padding
public import Idealize.ShloMosaic.Lib.ReduceAll
public import Idealize.ShloMosaic.Lib.Pointwise

@[expose] public section

noncomputable section

namespace Cert.Pre_tokens_and_padding.Read

open Cert.Pre_tokens_and_padding Cert.Pre_tokens_and_padding.Gen
open Idealize.ShloMosaic
open Facts

instance : Subsingleton S_.Idx := ⟨fun a b => funext fun d => d.elim0⟩

variable {i : IVec S256x2048 32} {tok : FVec Ideal S5x64 .f32} {pos : FVec Ideal S2048x64 .f32}

/-- The precondition, read: the range of every index, and the zero row. -/
theorem of_fn (h : fn (F := Ideal) i tok pos = fun _ => 1#1) :
    (∀ b l, 0 ≤ (i (ix2 b l)).toInt ∧ (i (ix2 b l)).toInt < 5) ∧ ∀ e, tok (ix2 0 e) = 0 := by
  have h0 := congrFun h (fun d => d.elim0 : S_.Idx)
  dsimp only [fn] at h0
  obtain ⟨h1, hz⟩ := IntOp.andi_eq_one.mp h0
  obtain ⟨hge, hlt⟩ := IntOp.andi_eq_one.mp h1
  refine ⟨fun b l => ⟨?_, ?_⟩, fun e => ?_⟩
  · exact IntOp.cmpi_sge.mp (Host.reduce_andi_all _ _ _ _ _ hge (ix2 b l))
  · exact IntOp.cmpi_slt.mp (Host.reduce_andi_all _ _ _ _ _ hlt (ix2 b l))
  · have he := Host.reduce_andi_all _ _ _ _ _ hz (ix1 e)
    revert he
    pointwise
    intro he
    by_contra hne
    simp [Ideal.cmp, hne] at he

/-- Every index is the word of the number of a row. -/
theorem row_of_fn (h : fn (F := Ideal) i tok pos = fun _ => 1#1) :
    ∃ row : Fin 256 → Fin 2048 → Fin 5, ∀ b l, i (ix2 b l) = BitVec.ofNat 32 (row b l).val := by
  have hlt : ∀ b l, (i (ix2 b l)).toNat < 5 := by
    intro b l
    obtain ⟨h1, h2⟩ := (of_fn h).1 b l
    have := (i (ix2 b l)).isLt
    rw [BitVec.toInt_eq_toNat_cond] at h1 h2
    split at h1 <;> omega
  exact ⟨fun b l => ⟨(i (ix2 b l)).toNat, hlt b l⟩, fun b l => by simp⟩

end Cert.Pre_tokens_and_padding.Read

end
-- ==== Proof.Equation.lean ====
/-
  The equation: under the precondition the kernel's result and the reference's are the same array, element by element.
-/
module

public import proofs.«01_k».proof.Defs
public import proofs.«01_k».proof.Proof.KernelValue
public import proofs.«01_k».proof.Proof.RefValue
public import proofs.«01_k».proof.Proof.Tokens

@[expose] public section

noncomputable section

namespace Cert.Embed

open Idealize.ShloMosaic Idealize.ShloMosaic.TcCoe Idealize.SL.Sem

/-- Of arguments that agree, with every index naming a row and row 0 at zero, the two results are equal. -/
theorem result_agrees
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hpre : Cert.Pre_tokens_and_padding.fn (F := Ideal) (Cert.KernelIdeal.Whole.idx m c) (Cert.KernelIdeal.Whole.tok m c)
      (Cert.KernelIdeal.Whole.pos m c) = fun _ => 1#1)
    (h0 : Cert.ReferenceIdeal.Taken.idx m' c = Cert.KernelIdeal.Whole.idx m c)
    (h1 : Cert.ReferenceIdeal.Taken.tok m' c = Cert.KernelIdeal.Whole.tok m c)
    (h2 : Cert.ReferenceIdeal.Taken.pos m' c = Cert.KernelIdeal.Whole.pos m c) :
    Cert.ReferenceIdeal.Taken.result m' c = Cert.KernelIdeal.Whole.result m c := by
  obtain ⟨row, hrow⟩ := Cert.Pre_tokens_and_padding.Read.row_of_fn hpre
  have hzero := (Cert.Pre_tokens_and_padding.Read.of_fn hpre).2
  have key : ∀ (b : Fin 256) (l : Fin 2048) (e : Fin 64),
      Cert.ReferenceIdeal.Taken.result m' c (ix3 b l e) = Cert.KernelIdeal.Whole.result m c (ix3 b l e) := by
    intro b l e
    rw [Cert.ReferenceIdeal.Taken.res_apply m' c row (fun b l => by rw [h0]; exact hrow b l) b l e, h1, h2]
    exact (chain_eq _ (Cert.KernelIdeal.Whole.pos m c (ix2 l e)) (fun k => Cert.KernelIdeal.Whole.tok m c (ix2 k e))
      (row b l) (hrow b l) (hzero e)).symm
  funext j
  rw [eq_ix3 j]
  exact key _ _ _

end Cert.Embed

end
-- ==== Proof.lean ====
/-
  The certificate of the token and position embedding: every execution of the kernel, of its idealization and of the
  reference ends with the arguments unchanged and every semaphore at zero, the idealization is the kernel's own text,
  and over the extended reals, where every index names a row of the token table and its row 0 is zero, the kernel's
  result is the reference's.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_tokens_and_padding
public import proofs.«01_k».proof.Proof.Equation
public import Idealize.ShloMosaic.Lib.Quiescent

@[expose] public section

noncomputable section

namespace Cert.Proof

open Idealize.ShloMosaic Idealize.SL.Sem

/-- The kernel's frame. -/
theorem frame_kernel : Cert.quiescent_Kernel := fun m ρ _ => Cert.Kernel.Gen.frame m ρ

/-- The idealized kernel's frame. -/
theorem frame_ideal : Cert.quiescent_KernelIdeal := fun m ρ _ => Cert.KernelIdeal.Gen.frame m ρ

/-- The same at the inputs that the precondition admits. -/
theorem frame_ideal_pre : Cert.quiescent_KernelIdeal_pre_tokens_and_padding :=
  fun m ρ _ => Cert.KernelIdeal.Gen.frame m ρ

/-- The reference's run leaves its arguments, and it has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The same at the inputs that the precondition admits. -/
theorem frame_reference_pre : Cert.quiescent_ReferenceIdeal_pre_tokens_and_padding := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The idealization rewrote nothing. -/
theorem preserves : Cert.preserves_Kernel_KernelIdeal := trivial

/-- Over the extended reals the kernel's result is the reference's. -/
theorem algebraic : Cert.algebraic_KernelIdeal_ReferenceIdeal_pre_tokens_and_padding := by
  intro m ρ m' ρ' hpre hagree
  refine ⟨fun c => Cert.KernelIdeal.Whole.result m c, Cert.KernelIdeal.Whole.run m ρ, ?_⟩
  exact (θ_run Cert.ReferenceIdeal.defs _ _).mono
    (fun _ h c => ⟨(h c).1.trans (Cert.Embed.result_agrees m m' c (hpre c) (hagree c).1 (hagree c).2.1 (hagree c).2.2),
      (h c).2⟩)
    (Cert.ReferenceIdeal.Value.run (F := Ideal) m' ρ')

theorem claim : Cert.Claim :=
  ⟨Cert.Kernel.Gen.facts, Cert.KernelIdeal.Gen.facts, Cert.ReferenceIdeal.Gen.facts,
    Cert.Pre_tokens_and_padding.Gen.facts, frame_kernel, frame_ideal, frame_ideal_pre, frame_reference,
    frame_reference_pre, preserves, algebraic⟩

end Cert.Proof

end
